-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x128 : Shape := ⟨3, ![16, 256, 128]⟩
abbrev S16x512x16 : Shape := ⟨3, ![16, 512, 16]⟩
abbrev S16x256x256 : Shape := ⟨3, ![16, 256, 256]⟩
abbrev S16x512x512 : Shape := ⟨3, ![16, 512, 512]⟩
abbrev S16x256x512 : Shape := ⟨3, ![16, 256, 512]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S1 : Shape := ⟨1, ![1]⟩
abbrev S16x16x512 : Shape := ⟨3, ![16, 16, 512]⟩
abbrev S1x16 : Shape := ⟨2, ![1, 16]⟩
abbrev S1x128 : Shape := ⟨2, ![1, 128]⟩
abbrev S16x1x1 : Shape := ⟨3, ![16, 1, 1]⟩
abbrev S4x256x128 : Shape := ⟨3, ![4, 256, 128]⟩
abbrev S4x16x512 : Shape := ⟨3, ![4, 16, 512]⟩
abbrev S4x256x256 : Shape := ⟨3, ![4, 256, 256]⟩
abbrev S4x512x512 : Shape := ⟨3, ![4, 512, 512]⟩
abbrev S4x256x512 : Shape := ⟨3, ![4, 256, 512]⟩
abbrev S4x1x1 : Shape := ⟨3, ![4, 1, 1]⟩
abbrev S1x256x128 : Shape := ⟨3, ![1, 256, 128]⟩
abbrev S256x128 : Shape := ⟨2, ![256, 128]⟩
abbrev S1x16x512 : Shape := ⟨3, ![1, 16, 512]⟩
abbrev S16x512 : Shape := ⟨2, ![16, 512]⟩
abbrev S1x256x256 : Shape := ⟨3, ![1, 256, 256]⟩
abbrev S256x256 : Shape := ⟨2, ![256, 256]⟩
abbrev S1x512x512 : Shape := ⟨3, ![1, 512, 512]⟩
abbrev S512x512 : Shape := ⟨2, ![512, 512]⟩
abbrev S1x256x512 : Shape := ⟨3, ![1, 256, 512]⟩
abbrev S256x512 : Shape := ⟨2, ![256, 512]⟩
abbrev S1x512 : Shape := ⟨2, ![1, 512]⟩
abbrev S256x1 : Shape := ⟨2, ![256, 1]⟩
abbrev S1x1 : Shape := ⟨2, ![1, 1]⟩
abbrev S1x1x1 : Shape := ⟨3, ![1, 1, 1]⟩

abbrev nBuf : Space → Nat
  | .hbm => 27
  | .vmem => 27
  | .smem => 0
  | _ => 0

abbrev bufTy : (tb : Table) → Fin (tcTables nBuf tb) → BufTy
  | .hbm, ⟨0, _⟩ => ⟨S16x256x128, .f32⟩
  | .hbm, ⟨1, _⟩ => ⟨S16x512x16, .f32⟩
  | .hbm, ⟨2, _⟩ => ⟨S16x256x256, .f32⟩
  | .hbm, ⟨3, _⟩ => ⟨S16x512x512, .f32⟩
  | .hbm, ⟨4, _⟩ => ⟨S16x256x256, .f32⟩
  | .hbm, ⟨5, _⟩ => ⟨S16x512x512, .f32⟩
  | .hbm, ⟨6, _⟩ => ⟨S16x256x512, .f32⟩
  | .hbm, ⟨7, _⟩ => ⟨S128x128, .f32⟩
  | .hbm, ⟨8, _⟩ => ⟨S16x16, .f32⟩
  | .hbm, ⟨9, _⟩ => ⟨S16x1, .f32⟩
  | .hbm, ⟨10, _⟩ => ⟨S128x1, .f32⟩
  | .hbm, ⟨11, _⟩ => ⟨S128x128, .f32⟩
  | .hbm, ⟨12, _⟩ => ⟨S16x16, .f32⟩
  | .hbm, ⟨13, _⟩ => ⟨S16x1, .f32⟩
  | .hbm, ⟨14, _⟩ => ⟨S128x1, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S16x16x512, .f32⟩
  | .hbm, ⟨20, _⟩ => ⟨S1x16, .f32⟩
  | .hbm, ⟨21, _⟩ => ⟨S1x128, .f32⟩
  | .hbm, ⟨22, _⟩ => ⟨S1x16, .f32⟩
  | .hbm, ⟨23, _⟩ => ⟨S1x128, .f32⟩
  | .hbm, ⟨24, _⟩ => ⟨S1x128, .f32⟩
  | .hbm, ⟨25, _⟩ => ⟨S16x1x1, .f32⟩
  | .hbm, ⟨26, _⟩ => ⟨S16x1, .f32⟩
  | .local _ .vmem, ⟨0, _⟩ => ⟨S4x256x128, .f32⟩
  | .local _ .vmem, ⟨1, _⟩ => ⟨S4x256x128, .f32⟩
  | .local _ .vmem, ⟨2, _⟩ => ⟨S4x16x512, .f32⟩
  | .local _ .vmem, ⟨3, _⟩ => ⟨S4x16x512, .f32⟩
  | .local _ .vmem, ⟨4, _⟩ => ⟨S4x256x256, .f32⟩
  | .local _ .vmem, ⟨5, _⟩ => ⟨S4x256x256, .f32⟩
  | .local _ .vmem, ⟨6, _⟩ => ⟨S4x512x512, .f32⟩
  | .local _ .vmem, ⟨7, _⟩ => ⟨S4x512x512, .f32⟩
  | .local _ .vmem, ⟨8, _⟩ => ⟨S4x256x256, .f32⟩
  | .local _ .vmem, ⟨9, _⟩ => ⟨S4x256x256, .f32⟩
  | .local _ .vmem, ⟨10, _⟩ => ⟨S4x512x512, .f32⟩
  | .local _ .vmem, ⟨11, _⟩ => ⟨S4x512x512, .f32⟩
  | .local _ .vmem, ⟨12, _⟩ => ⟨S4x256x512, .f32⟩
  | .local _ .vmem, ⟨13, _⟩ => ⟨S4x256x512, .f32⟩
  | .local _ .vmem, ⟨14, _⟩ => ⟨S128x128, .f32⟩
  | .local _ .vmem, ⟨15, _⟩ => ⟨S16x16, .f32⟩
  | .local _ .vmem, ⟨16, _⟩ => ⟨S1x16, .f32⟩
  | .local _ .vmem, ⟨17, _⟩ => ⟨S1x128, .f32⟩
  | .local _ .vmem, ⟨18, _⟩ => ⟨S128x128, .f32⟩
  | .local _ .vmem, ⟨19, _⟩ => ⟨S1x16, .f32⟩
  | .local _ .vmem, ⟨20, _⟩ => ⟨S1x128, .f32⟩
  | .local _ .vmem, ⟨21, _⟩ => ⟨S128x128, .f32⟩
  | .local _ .vmem, ⟨22, _⟩ => ⟨S128, .f32⟩
  | .local _ .vmem, ⟨23, _⟩ => ⟨S1x128, .f32⟩
  | .local _ .vmem, ⟨24, _⟩ => ⟨S1, .f32⟩
  | .local _ .vmem, ⟨25, _⟩ => ⟨S4x1x1, .f32⟩
  | .local _ .vmem, ⟨26, _⟩ => ⟨S4x1x1, .f32⟩
  | _, _ => ⟨S16x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg18_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S4x1x1 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S16x256x128 : Shape := ⟨3, ![16, 256, 128]⟩
abbrev S16x512x16 : Shape := ⟨3, ![16, 512, 16]⟩
abbrev S16x256x256 : Shape := ⟨3, ![16, 256, 256]⟩
abbrev S16x512x512 : Shape := ⟨3, ![16, 512, 512]⟩
abbrev S16x256x512 : Shape := ⟨3, ![16, 256, 512]⟩
abbrev S128x128 : Shape := ⟨2, ![128, 128]⟩
abbrev S16x16 : Shape := ⟨2, ![16, 16]⟩
abbrev S16x1 : Shape := ⟨2, ![16, 1]⟩
abbrev S128x1 : Shape := ⟨2, ![128, 1]⟩
abbrev S128 : Shape := ⟨1, ![128]⟩
abbrev S1 : Shape := ⟨1, ![1]⟩
abbrev S16x512x256 : Shape := ⟨3, ![16, 512, 256]⟩
abbrev S16x512x1 : Shape := ⟨3, ![16, 512, 1]⟩
abbrev S16x512 : Shape := ⟨2, ![16, 512]⟩
abbrev S16x1x512 : Shape := ⟨3, ![16, 1, 512]⟩
abbrev S_ : Shape := ⟨0, ![]⟩
abbrev S16x256x1 : Shape := ⟨3, ![16, 256, 1]⟩
abbrev S16x256 : Shape := ⟨2, ![16, 256]⟩
abbrev S16x1x256 : Shape := ⟨3, ![16, 1, 256]⟩
abbrev S1x1x128 : Shape := ⟨3, ![1, 1, 128]⟩
abbrev S16x128 : Shape := ⟨2, ![16, 128]⟩
abbrev S1x1 : Shape := ⟨2, ![1, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x256x128, .f32⟩
  | .hbm, ⟨1, _⟩ => ⟨S16x512x16, .f32⟩
  | .hbm, ⟨2, _⟩ => ⟨S16x256x256, .f32⟩
  | .hbm, ⟨3, _⟩ => ⟨S16x512x512, .f32⟩
  | .hbm, ⟨4, _⟩ => ⟨S16x256x256, .f32⟩
  | .hbm, ⟨5, _⟩ => ⟨S16x512x512, .f32⟩
  | .hbm, ⟨6, _⟩ => ⟨S16x256x512, .f32⟩
  | .hbm, ⟨7, _⟩ => ⟨S128x128, .f32⟩
  | .hbm, ⟨8, _⟩ => ⟨S16x16, .f32⟩
  | .hbm, ⟨9, _⟩ => ⟨S16x1, .f32⟩
  | .hbm, ⟨10, _⟩ => ⟨S128x1, .f32⟩
  | .hbm, ⟨11, _⟩ => ⟨S128x128, .f32⟩
  | .hbm, ⟨12, _⟩ => ⟨S16x16, .f32⟩
  | .hbm, ⟨13, _⟩ => ⟨S16x1, .f32⟩
  | .hbm, ⟨14, _⟩ => ⟨S128x1, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S16x512x256, .f32⟩
  | .hbm, ⟨20, _⟩ => ⟨S16x512x1, .f32⟩
  | .hbm, ⟨21, _⟩ => ⟨S16x512, .f32⟩
  | .hbm, ⟨22, _⟩ => ⟨S16x1x512, .f32⟩
  | .hbm, ⟨23, _⟩ => ⟨S16x256x512, .f32⟩
  | .hbm, ⟨24, _⟩ => ⟨S16x256x512, .f32⟩
  | .hbm, ⟨25, _⟩ => ⟨S16x256x256, .f32⟩
  | .hbm, ⟨26, _⟩ => ⟨S16x256x256, .f32⟩
  | .hbm, ⟨27, _⟩ => ⟨S16x256x128, .f32⟩
  | .hbm, ⟨28, _⟩ => ⟨S16x256x128, .f32⟩
  | .hbm, ⟨29, _⟩ => ⟨S16x256x128, .f32⟩
  | .hbm, ⟨30, _⟩ => ⟨S16x256x128, .f32⟩
  | .hbm, ⟨31, _⟩ => ⟨S_, .f32⟩
  | .hbm, ⟨32, _⟩ => ⟨S16x256x128, .f32⟩
  | .hbm, ⟨33, _⟩ => ⟨S16x256x128, .f32⟩
  | .hbm, ⟨34, _⟩ => ⟨S16x256x1, .f32⟩
  | .hbm, ⟨35, _⟩ => ⟨S16x256, .f32⟩
  | .hbm, ⟨36, _⟩ => ⟨S16x1x256, .f32⟩
  | .hbm, ⟨37, _⟩ => ⟨S16x512x256, .f32⟩
  | .hbm, ⟨38, _⟩ => ⟨S16x512x256, .f32⟩
  | .hbm, ⟨39, _⟩ => ⟨S16x512x512, .f32⟩
  | .hbm, ⟨40, _⟩ => ⟨S16x512x512, .f32⟩
  | .hbm, ⟨41, _⟩ => ⟨S16x512x16, .f32⟩
  | .hbm, ⟨42, _⟩ => ⟨S16x512x16, .f32⟩
  | .hbm, ⟨43, _⟩ => ⟨S16x512x16, .f32⟩
  | .hbm, ⟨44, _⟩ => ⟨S16x512x16, .f32⟩
  | .hbm, ⟨45, _⟩ => ⟨S_, .f32⟩
  | .hbm, ⟨46, _⟩ => ⟨S16x512x16, .f32⟩
  | .hbm, ⟨47, _⟩ => ⟨S16x512x16, .f32⟩
  | .hbm, ⟨48, _⟩ => ⟨S16x512x256, .f32⟩
  | .hbm, ⟨49, _⟩ => ⟨S16x512x1, .f32⟩
  | .hbm, ⟨50, _⟩ => ⟨S16x512, .f32⟩
  | .hbm, ⟨51, _⟩ => ⟨S16x1x512, .f32⟩
  | .hbm, ⟨52, _⟩ => ⟨S16x256x512, .f32⟩
  | .hbm, ⟨53, _⟩ => ⟨S16x256x512, .f32⟩
  | .hbm, ⟨54, _⟩ => ⟨S16x256x256, .f32⟩
  | .hbm, ⟨55, _⟩ => ⟨S16x256x256, .f32⟩
  | .hbm, ⟨56, _⟩ => ⟨S16x256x128, .f32⟩
  | .hbm, ⟨57, _⟩ => ⟨S16x256x128, .f32⟩
  | .hbm, ⟨58, _⟩ => ⟨S16x256x128, .f32⟩
  | .hbm, ⟨59, _⟩ => ⟨S16x256x128, .f32⟩
  | .hbm, ⟨60, _⟩ => ⟨S_, .f32⟩
  | .hbm, ⟨61, _⟩ => ⟨S16x256x128, .f32⟩
  | .hbm, ⟨62, _⟩ => ⟨S16x256x128, .f32⟩
  | .hbm, ⟨63, _⟩ => ⟨S16x256x1, .f32⟩
  | .hbm, ⟨64, _⟩ => ⟨S16x256, .f32⟩
  | .hbm, ⟨65, _⟩ => ⟨S16x1x256, .f32⟩
  | .hbm, ⟨66, _⟩ => ⟨S16x512x256, .f32⟩
  | .hbm, ⟨67, _⟩ => ⟨S16x512x256, .f32⟩
  | .hbm, ⟨68, _⟩ => ⟨S16x512x512, .f32⟩
  | .hbm, ⟨69, _⟩ => ⟨S16x512x512, .f32⟩
  | .hbm, ⟨70, _⟩ => ⟨S16x512x16, .f32⟩
  | .hbm, ⟨71, _⟩ => ⟨S16x512x16, .f32⟩
  | .hbm, ⟨72, _⟩ => ⟨S16x512x16, .f32⟩
  | .hbm, ⟨73, _⟩ => ⟨S16x512x16, .f32⟩
  | .hbm, ⟨74, _⟩ => ⟨S_, .f32⟩
  | .hbm, ⟨75, _⟩ => ⟨S16x512x16, .f32⟩
  | .hbm, ⟨76, _⟩ => ⟨S16x512x16, .f32⟩
  | .hbm, ⟨77, _⟩ => ⟨S16x256x128, .f32⟩
  | .hbm, ⟨78, _⟩ => ⟨S1x1x128, .f32⟩
  | .hbm, ⟨79, _⟩ => ⟨S16x256x128, .f32⟩
  | .hbm, ⟨80, _⟩ => ⟨S16x256x128, .f32⟩
  | .hbm, ⟨81, _⟩ => ⟨S_, .f32⟩
  | .hbm, ⟨82, _⟩ => ⟨S16x256x128, .f32⟩
  | .hbm, ⟨83, _⟩ => ⟨S16x256x128, .f32⟩
  | .hbm, ⟨84, _⟩ => ⟨S_, .f32⟩
  | .hbm, ⟨85, _⟩ => ⟨S16x128, .f32⟩
  | .hbm, ⟨86, _⟩ => ⟨S_, .f32⟩
  | .hbm, ⟨87, _⟩ => ⟨S16x128, .f32⟩
  | .hbm, ⟨88, _⟩ => ⟨S16x128, .f32⟩
  | .hbm, ⟨89, _⟩ => ⟨S16x1, .f32⟩
  | .hbm, ⟨90, _⟩ => ⟨S1x1, .f32⟩
  | .hbm, ⟨91, _⟩ => ⟨S16x1, .f32⟩
  | .hbm, ⟨92, _⟩ => ⟨S16x1, .f32⟩
  | _, _ => ⟨S16x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call0_cst : Ref sig .tc := ⟨.hbm, 31, rfl⟩
abbrev main_call0_v0 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_cst : Ref sig .tc := ⟨.hbm, 60, rfl⟩
abbrev main_call2_v0 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call3_cst : Ref sig .tc := ⟨.hbm, 74, rfl⟩
abbrev main_call3_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call4_cst : Ref sig .tc := ⟨.hbm, 81, rfl⟩
abbrev main_call4_v0 : Ref sig .tc := ⟨.hbm, 82, rfl⟩
abbrev main_v54 : Ref sig .tc := ⟨.hbm, 83, rfl⟩
abbrev main_cst : Ref sig .tc := ⟨.hbm, 84, rfl⟩
abbrev main_v55 : Ref sig .tc := ⟨.hbm, 85, rfl⟩
abbrev main_cst_0 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Proof.Net.lean ====
/-
  The network on ONE graph of the batch, over the extended reals: plain sums over plain indices, naming no buffer and
  no operation of either program. `Graph.value` is the number each program leaves for a graph; Block.lean reads the
  kernel down to it, HostNet.lean reads the reference down to it.
-/
module

public import Mathlib.Data.EReal.Operations
public import Mathlib.Data.EReal.Inv
public import Idealize.ShloMosaic.PureOps.Ideal
public import Idealize.ShloMosaic.Lib.Pointwise.Index

@[expose] public section

noncomputable section

namespace Cert.Net

/-- The product of two matrices: entry `(i, j)` is the sum over `k` of `x i k * y k j`. -/
def mm {a b c : ℕ} (x : Fin a → Fin b → EReal) (y : Fin b → Fin c → EReal) (i : Fin a) (j : Fin c) : EReal :=
  ∑ k : Fin b, x i k * y k j

/-- One score per row of features: the row against the weight vector `p`. -/
def score {a b : ℕ} (x : Fin a → Fin b → EReal) (p : Fin b → EReal) (i : Fin a) : EReal :=
  ∑ k : Fin b, x i k * p k

/-- The matrix that mixes nodes: the incidence matrix with its columns scaled by the edge scores `s`, times the
    transposed incidence matrix, entry by entry times the node adjacency `adj`. -/
def nodeMix {n e : ℕ} (inc : Fin n → Fin e → EReal) (s : Fin e → EReal) (adj : Fin n → Fin n → EReal)
    (i j : Fin n) : EReal :=
  (∑ k : Fin e, inc i k * s k * inc j k) * adj i j

/-- The matrix that mixes edges: the transposed incidence matrix with its columns scaled by the node scores `s`, times
    the incidence matrix, entry by entry times the edge adjacency `adj`. -/
def edgeMix {n e : ℕ} (inc : Fin n → Fin e → EReal) (s : Fin n → EReal) (adj : Fin e → Fin e → EReal)
    (i j : Fin e) : EReal :=
  (∑ k : Fin n, inc k i * s k * inc k j) * adj i j

/-- One propagation: features through the weights `w`, then `deg`, `mix` and `deg` again, cut off below at zero. -/
def propagate {a b c : ℕ} (deg mix : Fin a → Fin a → EReal) (x : Fin a → Fin b → EReal) (w : Fin b → Fin c → EReal)
    (i : Fin a) (j : Fin c) : EReal :=
  max (mm deg (mm mix (mm deg (mm x w))) i j) 0

/-- One graph: node features, edge features, the two adjacencies, the two degree matrices, the incidence matrix. -/
structure Graph where
  node : Fin 256 → Fin 128 → EReal
  edge : Fin 512 → Fin 16 → EReal
  nodeAdj : Fin 256 → Fin 256 → EReal
  edgeAdj : Fin 512 → Fin 512 → EReal
  nodeDeg : Fin 256 → Fin 256 → EReal
  edgeDeg : Fin 512 → Fin 512 → EReal
  inc : Fin 256 → Fin 512 → EReal

/-- The weights the result depends on: of the second layer's edge update nothing is used. -/
structure Weights where
  wn1 : Fin 128 → Fin 128 → EReal
  we1 : Fin 16 → Fin 16 → EReal
  pe1 : Fin 16 → EReal
  pv1 : Fin 128 → EReal
  wn2 : Fin 128 → Fin 128 → EReal
  pe2 : Fin 16 → EReal
  wv1 : Fin 128 → Fin 128 → EReal
  bv1 : Fin 128 → EReal
  wv2 : Fin 128 → EReal
  bv2 : EReal

variable (g : Graph) (w : Weights)

/-- The node features after the first layer. -/
def Graph.node1 : Fin 256 → Fin 128 → EReal :=
  propagate g.nodeDeg (nodeMix g.inc (score g.edge w.pe1) g.nodeAdj) g.node w.wn1

/-- The edge features after the first layer. -/
def Graph.edge1 : Fin 512 → Fin 16 → EReal :=
  propagate g.edgeDeg (edgeMix g.inc (score g.node w.pv1) g.edgeAdj) g.edge w.we1

/-- The node features after the second layer. -/
def Graph.node2 : Fin 256 → Fin 128 → EReal :=
  propagate g.nodeDeg (nodeMix g.inc (score (g.edge1 w) w.pe2) g.nodeAdj) (g.node1 w) w.wn2

/-- The mean over the nodes of the first dense layer's outputs, each cut off below at zero: their sum divided by the
    number both programs write as the 32-bit word of 256. -/
def pooled (x : Fin 256 → Fin 128 → EReal) (wv : Fin 128 → Fin 128 → EReal) (bv : Fin 128 → EReal) (j : Fin 128) : EReal :=
  Idealize.ShloMosaic.Ideal.div (∑ i : Fin 256, max (mm x wv i j + bv j) 0)
    (Idealize.ShloMosaic.Ideal.ofBits .f32 0x43800000#32)

/-- The network's value on the graph: the pooled features against the last weight vector, plus the last bias. -/
def Graph.value : EReal := (∑ j : Fin 128, pooled (g.node2 w) w.wv1 w.bv1 j * w.wv2 j) + w.bv2

/-! ## The arguments as sixteen graphs and one set of weights -/

section Arrays

open Idealize.ShloMosaic

/-- An array of extended reals of the given extents. -/
abbrev Arr (r : ℕ) (n : Fin r → ℕ) : Type := (⟨r, n⟩ : Shape).Idx → EReal

/-- Graph `b` of the batch: row `b` of each of the seven data arrays. -/
def graphOf (node : Arr 3 ![16, 256, 128]) (edge : Arr 3 ![16, 512, 16]) (nodeAdj : Arr 3 ![16, 256, 256])
    (edgeAdj : Arr 3 ![16, 512, 512]) (nodeDeg : Arr 3 ![16, 256, 256]) (edgeDeg : Arr 3 ![16, 512, 512])
    (inc : Arr 3 ![16, 256, 512]) (b : Fin 16) : Graph where
  node i k := node (ix3 b i k)
  edge e k := edge (ix3 b e k)
  nodeAdj i j := nodeAdj (ix3 b i j)
  edgeAdj e f := edgeAdj (ix3 b e f)
  nodeDeg i j := nodeDeg (ix3 b i j)
  edgeDeg e f := edgeDeg (ix3 b e f)
  inc i e := inc (ix3 b i e)

/-- The weights of the network from the weight arrays: the four weight vectors are columns there. -/
def weightsOf (wn1 : Arr 2 ![128, 128]) (we1 : Arr 2 ![16, 16]) (pe1 : Arr 2 ![16, 1]) (pv1 : Arr 2 ![128, 1])
    (wn2 : Arr 2 ![128, 128]) (pe2 : Arr 2 ![16, 1]) (wv1 : Arr 2 ![128, 128]) (bv1 : Arr 1 ![128])
    (wv2 : Arr 2 ![128, 1]) (bv2 : Arr 1 ![1]) : Weights where
  wn1 k l := wn1 (ix2 k l)
  we1 k l := we1 (ix2 k l)
  pe1 k := pe1 (ix2 k 0)
  pv1 k := pv1 (ix2 k 0)
  wn2 k l := wn2 (ix2 k l)
  pe2 k := pe2 (ix2 k 0)
  wv1 k l := wv1 (ix2 k l)
  bv1 k := bv1 (ix1 k)
  wv2 k := wv2 (ix2 k 0)
  bv2 := bv2 (ix1 0)

end Arrays

end Cert.Net

end
-- ==== Proof.Block.lean ====
/-
  What the kernel's body computes for ONE graph of its block, written once over the operations it uses (the body spells
  it out four times), and read at the ideal instance as `Net.Graph.value`. Edge features lie transposed here: a slab
  of edge features is indexed feature first, edge second.
-/
module

public import proofs.«01_k».proof.Defs
public import proofs.«01_k».proof.Proof.Net
public import proofs.«01_k».proof.Proof.Gen.KernelIdeal.Skeleton
public import Idealize.ShloMosaic.Lib.Pointwise

@[expose] public section

set_option maxRecDepth 16384

noncomputable section

open Idealize.ShloMosaic

namespace Cert.KernelIdeal.Block

open Cert.KernelIdeal Cert.KernelIdeal.Gen

variable {F : FTy → Type} [FloatOps F]

/-- The edge scores as a row: the weight row times the transposed edge features. -/
def edgeScore (p : FVec F S1x16 .f32) (et : FVec F S16x512 .f32) : FVec F S1x512 .f32 :=
  matmul dot_S1x16_S16x512_S1x512_1_0_0_1_n_n none p et (constant S1x512 .f32 0x00000000#32)

/-- The node scores as a column. -/
def nodeScore (x : FVec F S256x128 .f32) (p : FVec F S1x128 .f32) : FVec F S256x1 .f32 :=
  matmul dot_S256x128_S1x128_S256x1_1_1_0_0_n_n none x p (constant S256x1 .f32 0x00000000#32)

/-- The node-mixing matrix from the incidence slab, a row of edge scores and the node adjacency. -/
def nodeMix (inc : FVec F S256x512 .f32) (s : FVec F S1x512 .f32) (adj : FVec F S256x256 .f32) : FVec F S256x256 .f32 :=
  mulf (matmul dot_S256x512_S256x512_S256x256_1_1_0_0_n_n none
    (mulf inc (broadcastTo S256x512 s broadcasts_S1x512_S256x512)) inc (constant S256x256 .f32 0x00000000#32)) adj

/-- The edge-mixing matrix from the incidence slab, a column of node scores and the edge adjacency. -/
def edgeMix (inc : FVec F S256x512 .f32) (s : FVec F S256x1 .f32) (adj : FVec F S512x512 .f32) : FVec F S512x512 .f32 :=
  mulf (matmul dot_S256x512_S256x512_S512x512_0_0_1_1_n_n none
    (mulf inc (broadcastTo S256x512 s broadcasts_S256x1_S256x512)) inc (constant S512x512 .f32 0x00000000#32)) adj

/-- A 256-by-256 matrix times a slab of node features. -/
def applyNode (a : FVec F S256x256 .f32) (x : FVec F S256x128 .f32) : FVec F S256x128 .f32 :=
  matmul dot_S256x256_S256x128_S256x128_1_0_0_1_n_n none a x (constant S256x128 .f32 0x00000000#32)

/-- A slab of node features times a weight matrix. -/
def weighNode (x : FVec F S256x128 .f32) (w : FVec F S128x128 .f32) : FVec F S256x128 .f32 :=
  matmul dot_S256x128_S128x128_S256x128_1_0_0_1_n_n none x w (constant S256x128 .f32 0x00000000#32)

/-- Transposed edge features times a transposed 512-by-512 matrix. -/
def applyEdge (a : FVec F S512x512 .f32) (yt : FVec F S16x512 .f32) : FVec F S16x512 .f32 :=
  matmul dot_S16x512_S512x512_S16x512_1_1_0_0_n_n none yt a (constant S16x512 .f32 0x00000000#32)

/-- A transposed weight matrix times transposed edge features. -/
def weighEdge (w : FVec F S16x16 .f32) (et : FVec F S16x512 .f32) : FVec F S16x512 .f32 :=
  matmul dot_S16x16_S16x512_S16x512_0_0_1_1_n_n none w et (constant S16x512 .f32 0x00000000#32)

/-- One node propagation. -/
def nodeStep (deg mix : FVec F S256x256 .f32) (x : FVec F S256x128 .f32) (w : FVec F S128x128 .f32) : FVec F S256x128 .f32 :=
  maximumf (applyNode deg (applyNode mix (applyNode deg (weighNode x w))))
    (broadcast S256x128 (Scalar.ofBits .f32 0x00000000#32))

/-- One edge propagation, on transposed edge features. -/
def edgeStep (deg mix : FVec F S512x512 .f32) (et : FVec F S16x512 .f32) (w : FVec F S16x16 .f32) : FVec F S16x512 .f32 :=
  maximumf (applyEdge deg (applyEdge mix (applyEdge deg (weighEdge w et))))
    (broadcast S16x512 (Scalar.ofBits .f32 0x00000000#32))

/-- The pooled features as a row: the dense layer, its cut at zero, the sum over the nodes divided by 256. -/
def pool (x : FVec F S256x128 .f32) (wv : FVec F S128x128 .f32) (bv : FVec F S128 .f32) : FVec F S1x128 .f32 :=
  divf (shapeCast S1x128 (multiReduction .add [0] S128 (maximumf (addf (weighNode x wv)
      (broadcastTo S256x128 (shapeCast S1x128 bv shapeCasts_S128_S1x128) broadcasts_S1x128_S256x128))
      (broadcast S256x128 (Scalar.ofBits .f32 0x00000000#32)))
      0x00000000#32 reduces_S256x128_S128 (.inl rfl) rfl) shapeCasts_S128_S1x128)
    (broadcast S1x128 (Scalar.ofBits .f32 0x43800000#32))

/-- The last dense layer of one row: the row against the weight row, plus the bias. -/
def dense (v w : FVec F S1x128 .f32) (b : FVec F S1 .f32) : FVec F S1x1x1 .f32 :=
  shapeCast S1x1x1 (addf (shapeCast S1x1 (multiReduction .add [1] S1 (mulf v w)
      0x00000000#32 reduces_S1x128_S1 (.inl rfl) rfl) shapeCasts_S1_S1x1)
    (shapeCast S1x1 b shapeCasts_S1_S1x1)) shapeCasts_S1x1_S1x1x1

/-- The weights as the body loads them: the weight vectors are rows. -/
structure Params (F : FTy → Type) where
  wn1 : FVec F S128x128 .f32
  we1 : FVec F S16x16 .f32
  pe1 : FVec F S1x16 .f32
  pv1 : FVec F S1x128 .f32
  wn2 : FVec F S128x128 .f32
  pe2 : FVec F S1x16 .f32
  wv1 : FVec F S128x128 .f32
  bv1 : FVec F S128 .f32
  wv2 : FVec F S1x128 .f32
  bv2 : FVec F S1 .f32

/-- One graph's slabs as the body loads them, each with a leading axis of extent one; the edge features transposed. -/
structure Slabs (F : FTy → Type) where
  node : FVec F S1x256x128 .f32
  edge : FVec F S1x16x512 .f32
  nodeAdj : FVec F S1x256x256 .f32
  edgeAdj : FVec F S1x512x512 .f32
  nodeDeg : FVec F S1x256x256 .f32
  edgeDeg : FVec F S1x512x512 .f32
  inc : FVec F S1x256x512 .f32

variable (s : Slabs F) (p : Params F)

/-- The incidence slab without its leading axis. -/
def Slabs.inc' : FVec F S256x512 .f32 := shapeCast S256x512 s.inc shapeCasts_S1x256x512_S256x512
/-- The node features without their leading axis. -/
def Slabs.node' : FVec F S256x128 .f32 := shapeCast S256x128 s.node shapeCasts_S1x256x128_S256x128
/-- The transposed edge features without their leading axis. -/
def Slabs.edge' : FVec F S16x512 .f32 := shapeCast S16x512 s.edge shapeCasts_S1x16x512_S16x512
/-- The node adjacency without its leading axis. -/
def Slabs.nodeAdj' : FVec F S256x256 .f32 := shapeCast S256x256 s.nodeAdj shapeCasts_S1x256x256_S256x256
/-- The edge adjacency without its leading axis. -/
def Slabs.edgeAdj' : FVec F S512x512 .f32 := shapeCast S512x512 s.edgeAdj shapeCasts_S1x512x512_S512x512
/-- The node degree matrix without its leading axis. -/
def Slabs.nodeDeg' : FVec F S256x256 .f32 := shapeCast S256x256 s.nodeDeg shapeCasts_S1x256x256_S256x256
/-- The edge degree matrix without its leading axis. -/
def Slabs.edgeDeg' : FVec F S512x512 .f32 := shapeCast S512x512 s.edgeDeg shapeCasts_S1x512x512_S512x512

/-- The first layer's node features, as the body computes them. -/
def node1 : FVec F S256x128 .f32 :=
  nodeStep s.nodeDeg' (nodeMix s.inc' (edgeScore (shapeCast S1x16 p.pe1 shapeCasts_S1x16_S1x16) s.edge') s.nodeAdj') s.node' p.wn1

/-- The first layer's edge features, transposed, as the body computes them. -/
def edge1 : FVec F S16x512 .f32 :=
  edgeStep s.edgeDeg' (edgeMix s.inc' (nodeScore s.node' (shapeCast S1x128 p.pv1 shapeCasts_S1x128_S1x128)) s.edgeAdj') s.edge' p.we1

/-- The second layer's node features, as the body computes them. -/
def node2 : FVec F S256x128 .f32 :=
  nodeStep s.nodeDeg' (nodeMix s.inc' (edgeScore (shapeCast S1x16 p.pe2 shapeCasts_S1x16_S1x16) (edge1 s p)) s.nodeAdj') (node1 s p) p.wn2

/-- What the body stores for one graph. -/
def value : FVec F S1x1x1 .f32 :=
  dense (pool (node2 s p) p.wv1 p.bv1) (shapeCast S1x128 p.wv2 shapeCasts_S1x128_S1x128) p.bv2

end Cert.KernelIdeal.Block

/-! ## The same operations at the ideal instance, read at an index -/

namespace Cert.KernelIdeal.Block

open Cert.KernelIdeal Cert.KernelIdeal.Gen

/-- The edge scores at edge `e`: the kernel writes the weight first in each product. -/
theorem edgeScore_apply (p : FVec Ideal S1x16 .f32) (et : FVec Ideal S16x512 .f32) (e : Fin 512) :
    edgeScore p et (ix2 0 e) = Net.score (fun e k => et (ix2 k e)) (fun k => p (ix2 0 k)) e := by
  pointwise [edgeScore, Net.score]
  exact Finset.sum_congr rfl fun k _ => mul_comm _ _

/-- The node scores at node `i`. -/
theorem nodeScore_apply (x : FVec Ideal S256x128 .f32) (p : FVec Ideal S1x128 .f32) (i : Fin 256) :
    nodeScore x p (ix2 i 0) = Net.score (fun i k => x (ix2 i k)) (fun k => p (ix2 0 k)) i := by
  pointwise [nodeScore, Net.score]

/-- The node-mixing matrix at entry `(i, j)`. -/
theorem nodeMix_apply (inc : FVec Ideal S256x512 .f32) (s : FVec Ideal S1x512 .f32) (adj : FVec Ideal S256x256 .f32) (i j : Fin 256) :
    nodeMix inc s adj (ix2 i j)
      = Net.nodeMix (fun i e => inc (ix2 i e)) (fun e => s (ix2 0 e)) (fun i j => adj (ix2 i j)) i j := by
  pointwise [nodeMix, Net.nodeMix]

/-- The edge-mixing matrix at entry `(e, f)`. -/
theorem edgeMix_apply (inc : FVec Ideal S256x512 .f32) (s : FVec Ideal S256x1 .f32) (adj : FVec Ideal S512x512 .f32) (e f : Fin 512) :
    edgeMix inc s adj (ix2 e f)
      = Net.edgeMix (fun i e => inc (ix2 i e)) (fun i => s (ix2 i 0)) (fun e f => adj (ix2 e f)) e f := by
  pointwise [edgeMix, Net.edgeMix]

/-- One node propagation at node `i`, feature `j`. -/
theorem nodeStep_apply (deg mix : FVec Ideal S256x256 .f32) (x : FVec Ideal S256x128 .f32) (w : FVec Ideal S128x128 .f32)
    (i : Fin 256) (j : Fin 128) :
    nodeStep deg mix x w (ix2 i j)
      = Net.propagate (fun i j => deg (ix2 i j)) (fun i j => mix (ix2 i j)) (fun i k => x (ix2 i k))
          (fun k l => w (ix2 k l)) i j := by
  pointwise [nodeStep, applyNode, weighNode, Net.propagate, Net.mm]

/-- Transposed edge features times the transposed matrix, at feature `k`, edge `e`: the matrix times the features. -/
theorem applyEdge_apply (a : FVec Ideal S512x512 .f32) (yt : FVec Ideal S16x512 .f32) (k : Fin 16) (e : Fin 512) :
    applyEdge a yt (ix2 k e) = Net.mm (fun e f => a (ix2 e f)) (fun f l => yt (ix2 l f)) e k := by
  pointwise [applyEdge, Net.mm]
  exact Finset.sum_congr rfl fun f _ => mul_comm _ _

/-- The transposed weights times the transposed edge features, at feature `l`, edge `e`: the features times the weights. -/
theorem weighEdge_apply (w : FVec Ideal S16x16 .f32) (et : FVec Ideal S16x512 .f32) (l : Fin 16) (e : Fin 512) :
    weighEdge w et (ix2 l e) = Net.mm (fun e k => et (ix2 k e)) (fun k l => w (ix2 k l)) e l := by
  pointwise [weighEdge, Net.mm]
  exact Finset.sum_congr rfl fun f _ => mul_comm _ _

/-- One edge propagation at feature `k`, edge `e`: on transposed features it is the propagation of the features. -/
theorem edgeStep_apply (deg mix : FVec Ideal S512x512 .f32) (et : FVec Ideal S16x512 .f32) (w : FVec Ideal S16x16 .f32)
    (k : Fin 16) (e : Fin 512) :
    edgeStep deg mix et w (ix2 k e)
      = Net.propagate (fun e f => deg (ix2 e f)) (fun e f => mix (ix2 e f)) (fun e k => et (ix2 k e))
          (fun k l => w (ix2 k l)) e k := by
  pointwise [edgeStep, applyEdge_apply, weighEdge_apply, Net.propagate]

/-- The pooled features at feature `j`. -/
theorem pool_apply (x : FVec Ideal S256x128 .f32) (wv : FVec Ideal S128x128 .f32) (bv : FVec Ideal S128 .f32) (j : Fin 128) :
    pool x wv bv (ix2 0 j) = Net.pooled (fun i k => x (ix2 i k)) (fun i k => wv (ix2 i k)) (fun k => bv (ix1 k)) j := by
  pointwise [pool, weighNode, Net.pooled, Net.mm]

/-- The last dense layer at its one index. -/
theorem dense_apply (v w : FVec Ideal S1x128 .f32) (b : FVec Ideal S1 .f32) :
    dense v w b (ix3 0 0 0) = (∑ j : Fin 128, v (ix2 0 j) * w (ix2 0 j)) + b (ix1 0) := by
  pointwise [dense]

/-- The slabs as a graph: the leading axis dropped, the edge features with the edge first again. -/
def Slabs.graph (s : Slabs Ideal) : Net.Graph where
  node i k := s.node (ix3 0 i k)
  edge e k := s.edge (ix3 0 k e)
  nodeAdj i j := s.nodeAdj (ix3 0 i j)
  edgeAdj e f := s.edgeAdj (ix3 0 e f)
  nodeDeg i j := s.nodeDeg (ix3 0 i j)
  edgeDeg e f := s.edgeDeg (ix3 0 e f)
  inc i e := s.inc (ix3 0 i e)

/-- The loaded weights as the network's. -/
def Params.weights (p : Params Ideal) : Net.Weights where
  wn1 k l := p.wn1 (ix2 k l)
  we1 k l := p.we1 (ix2 k l)
  pe1 k := p.pe1 (ix2 0 k)
  pv1 k := p.pv1 (ix2 0 k)
  wn2 k l := p.wn2 (ix2 k l)
  pe2 k := p.pe2 (ix2 0 k)
  wv1 k l := p.wv1 (ix2 k l)
  bv1 k := p.bv1 (ix1 k)
  wv2 k := p.wv2 (ix2 0 k)
  bv2 := p.bv2 (ix1 0)

variable (s : Slabs Ideal) (p : Params Ideal)

/-- The first layer's node features of the slabs are the network's on their graph. -/
theorem node1_apply (i : Fin 256) (j : Fin 128) : node1 s p (ix2 i j) = s.graph.node1 p.weights i j := by
  pointwise [node1, nodeStep_apply, nodeMix_apply, edgeScore_apply, Slabs.inc', Slabs.node', Slabs.edge', Slabs.nodeAdj',
    Slabs.nodeDeg', Net.Graph.node1, Slabs.graph, Params.weights]

/-- The first layer's transposed edge features of the slabs are the network's on their graph. -/
theorem edge1_apply (k : Fin 16) (e : Fin 512) : edge1 s p (ix2 k e) = s.graph.edge1 p.weights e k := by
  pointwise [edge1, edgeStep_apply, edgeMix_apply, nodeScore_apply, Slabs.inc', Slabs.node', Slabs.edge', Slabs.edgeAdj',
    Slabs.edgeDeg', Net.Graph.edge1, Slabs.graph, Params.weights]

/-- The second layer's node features of the slabs are the network's on their graph. -/
theorem node2_apply (i : Fin 256) (j : Fin 128) : node2 s p (ix2 i j) = s.graph.node2 p.weights i j := by
  pointwise [node2, nodeStep_apply, nodeMix_apply, edgeScore_apply, node1_apply, edge1_apply, Slabs.inc', Slabs.nodeAdj',
    Slabs.nodeDeg', Net.Graph.node2]
  simp only [Slabs.graph, Params.weights]

/-- WHAT THE BODY STORES FOR ONE GRAPH is the network's value on it. -/
theorem value_apply : value s p (ix3 0 0 0) = s.graph.value p.weights := by
  pointwise [value, dense_apply, pool_apply, node2_apply, Net.Graph.value]
  simp only [Params.weights]

end Cert.KernelIdeal.Block

end
-- ==== Proof.KernelNet.lean ====
/-
  The kernel's run, read: after it the result array holds, for every graph of the batch, the network's value on it.
-/
module

public import proofs.«01_k».proof.Defs
public import proofs.«01_k».proof.Proof.Net
public import proofs.«01_k».proof.Proof.Block
public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.NetValue

open Cert.KernelIdeal Cert.KernelIdeal.Gen

section Pieces

variable {F : FTy → Type} [FloatOps F]

/-- The body's four stores are the one-graph computation on the four rows of the block, over the whole weight blocks. -/
theorem out_eq (x0 : Vec F S4x256x128 .f32) (x1 : Vec F S4x16x512 .f32) (x2 : Vec F S4x256x256 .f32)
    (x3 : Vec F S4x512x512 .f32) (x4 : Vec F S4x256x256 .f32) (x5 : Vec F S4x512x512 .f32) (x6 : Vec F S4x256x512 .f32)
    (x7 : Vec F S128x128 .f32) (x8 : Vec F S16x16 .f32) (x9 : Vec F S1x16 .f32) (x10 : Vec F S1x128 .f32)
    (x11 : Vec F S128x128 .f32) (x12 : Vec F S1x16 .f32) (x13 : Vec F S1x128 .f32) (x14 : Vec F S128x128 .f32)
    (x15 : Vec F S128 .f32) (x16 : Vec F S1x128 .f32) (x17 : Vec F S1 .f32) :
    let p : Block.Params F := ⟨View.ld x7 r0_21, View.ld x8 r0_23, View.ld x9 r0_20, View.ld x10 r0_22, View.ld x11 r0_21,
      View.ld x12 r0_20, View.ld x14 r0_21, View.ld x15 r0_24, View.ld x16 r0_22, View.ld x17 r0_25⟩
    out0_18 x0 x1 x2 x3 x4 x5 x6 x7 x8 x9 x10 x11 x12 x13 x14 x15 x16 x17 = View.canon
      [⟨r0_29, Block.value ⟨View.ld x0 r0_3, View.ld x1 r0_7, View.ld x2 r0_11, View.ld x3 r0_15, View.ld x4 r0_11,
          View.ld x5 r0_15, View.ld x6 r0_19⟩ p⟩,
       ⟨r0_28, Block.value ⟨View.ld x0 r0_2, View.ld x1 r0_6, View.ld x2 r0_10, View.ld x3 r0_14, View.ld x4 r0_10,
          View.ld x5 r0_14, View.ld x6 r0_18⟩ p⟩,
       ⟨r0_27, Block.value ⟨View.ld x0 r0_1, View.ld x1 r0_5, View.ld x2 r0_9, View.ld x3 r0_13, View.ld x4 r0_9,
          View.ld x5 r0_13, View.ld x6 r0_17⟩ p⟩,
       ⟨r0_26, Block.value ⟨View.ld x0 r0_0, View.ld x1 r0_4, View.ld x2 r0_8, View.ld x3 r0_12, View.ld x4 r0_8,
          View.ld x5 r0_12, View.ld x6 r0_16⟩ p⟩] := rfl

end Pieces

variable (m : (ℓ : Loc nD τ sig) → Buf (Elt Ideal) ℓ)

/-- The windows' index maps, at every grid point: the eight batched windows move with the point, four graphs a block. -/
theorem idx : ∀ t : Fin cfg0.N, win0_0.index t = ![t.val, 0, 0] ∧ win0_1.index t = ![t.val, 0, 0]
    ∧ win0_2.index t = ![t.val, 0, 0] ∧ win0_3.index t = ![t.val, 0, 0] ∧ win0_4.index t = ![t.val, 0, 0]
    ∧ win0_5.index t = ![t.val, 0, 0] ∧ win0_6.index t = ![t.val, 0, 0] ∧ win0_18.index t = ![t.val, 0, 0] :=
  (by decide +kernel : ∀ t : Fin grid0.N, _)

/-- The graph a row of point `t`'s block belongs to. -/
abbrev row (t : Fin cfg0.N) (k : Fin 4) : Fin 16 :=
  ⟨4 * t.val + k.val, by have := lt_of_lt_of_eq t.isLt N_0; omega⟩

/-- The node block of point `t`, read at row `k`. -/
theorem node_at (c : Dev nD) (t : Fin cfg0.N) (k : Fin 4) (i : Fin 256) (j : Fin 128) :
    iblk m c 0 t (ix3 k i j) = m ((c : Thread nD τ).loc main_arg0) (ix3 (row t k) i j) := by
  blk_ext [iblk, V, idx t]

/-- Before the region the edge array is transposed: features first, edges second. -/
theorem V_edge (c : Dev nD) : V m c main_v0
    = transpose S16x16x512 [0, 2, 1] (m ((c : Thread nD τ).loc main_arg1)) transposes_S16x512x16_S16x16x512_0_2_1 := by
  show StableHlo.after (hostOps0 (F := Ideal)) (fun b => m (c, b)) (Proc.devRef .tc main_v0) = _
  after_results_simp <;> rfl

/-- The first layer's edge weight vector, laid out as a row before the region. -/
theorem V_pe1 (c : Dev nD) : V m c main_v1
    = shapeCast S1x16 (m ((c : Thread nD τ).loc main_arg9)) shapeCasts_S16x1_S1x16 := by
  show StableHlo.after (hostOps0 (F := Ideal)) (fun b => m (c, b)) (Proc.devRef .tc main_v1) = _
  after_results_simp <;> rfl

/-- The first layer's node weight vector, laid out as a row before the region. -/
theorem V_pv1 (c : Dev nD) : V m c main_v2
    = shapeCast S1x128 (m ((c : Thread nD τ).loc main_arg10)) shapeCasts_S128x1_S1x128 := by
  show StableHlo.after (hostOps0 (F := Ideal)) (fun b => m (c, b)) (Proc.devRef .tc main_v2) = _
  after_results_simp <;> rfl

/-- The second layer's edge weight vector, laid out as a row before the region. -/
theorem V_pe2 (c : Dev nD) : V m c main_v3
    = shapeCast S1x16 (m ((c : Thread nD τ).loc main_arg13)) shapeCasts_S16x1_S1x16 := by
  show StableHlo.after (hostOps0 (F := Ideal)) (fun b => m (c, b)) (Proc.devRef .tc main_v3) = _
  after_results_simp <;> rfl

/-- The last weight vector, laid out as a row before the region. -/
theorem V_wv2 (c : Dev nD) : V m c main_v5
    = shapeCast S1x128 (m ((c : Thread nD τ).loc main_arg17)) shapeCasts_S128x1_S1x128 := by
  show StableHlo.after (hostOps0 (F := Ideal)) (fun b => m (c, b)) (Proc.devRef .tc main_v5) = _
  after_results_simp <;> rfl

/-- The edge block of point `t`, read at row `k`: the array as launched, its last two axes exchanged. -/
theorem edge_at (c : Dev nD) (t : Fin cfg0.N) (k : Fin 4) (i : Fin 16) (j : Fin 512) :
    iblk m c 1 t (ix3 k i j) = m ((c : Thread nD τ).loc main_arg1) (ix3 (row t k) j i) := by
  unfold iblk
  show V m c main_v0 (((cfg0.win 1).blk t).view.emb (ix3 k i j)) = _
  rw [V_edge]
  pointwise
  blk_ext [idx t]

/-- The node adjacency block of point `t`, read at row `k`. -/
theorem nodeAdj_at (c : Dev nD) (t : Fin cfg0.N) (k : Fin 4) (i : Fin 256) (j : Fin 256) :
    iblk m c 2 t (ix3 k i j) = m ((c : Thread nD τ).loc main_arg2) (ix3 (row t k) i j) := by
  blk_ext [iblk, V, idx t]

/-- The edge adjacency block of point `t`, read at row `k`. -/
theorem edgeAdj_at (c : Dev nD) (t : Fin cfg0.N) (k : Fin 4) (i : Fin 512) (j : Fin 512) :
    iblk m c 3 t (ix3 k i j) = m ((c : Thread nD τ).loc main_arg3) (ix3 (row t k) i j) := by
  blk_ext [iblk, V, idx t]

/-- The node degree block of point `t`, read at row `k`. -/
theorem nodeDeg_at (c : Dev nD) (t : Fin cfg0.N) (k : Fin 4) (i : Fin 256) (j : Fin 256) :
    iblk m c 4 t (ix3 k i j) = m ((c : Thread nD τ).loc main_arg4) (ix3 (row t k) i j) := by
  blk_ext [iblk, V, idx t]

/-- The edge degree block of point `t`, read at row `k`. -/
theorem edgeDeg_at (c : Dev nD) (t : Fin cfg0.N) (k : Fin 4) (i : Fin 512) (j : Fin 512) :
    iblk m c 5 t (ix3 k i j) = m ((c : Thread nD τ).loc main_arg5) (ix3 (row t k) i j) := by
  blk_ext [iblk, V, idx t]

/-- The incidence block of point `t`, read at row `k`. -/
theorem inc_at (c : Dev nD) (t : Fin cfg0.N) (k : Fin 4) (i : Fin 256) (j : Fin 512) :
    iblk m c 6 t (ix3 k i j) = m ((c : Thread nD τ).loc main_arg6) (ix3 (row t k) i j) := by
  blk_ext [iblk, V, idx t]

/-- Row `k` of a four-row block, loaded with its leading axis kept, read at an index. -/
theorem ld_row {a b : ℕ} (x : Vec Ideal ⟨3, ![4, a, b]⟩ .f32) (k : Fin 4)
    (h : ∀ d, (![k.val, 0, 0] : Fin 3 → ℕ) d + (![1, a, b] : Fin 3 → ℕ) d ≤ (⟨3, ![4, a, b]⟩ : Shape).size d)
    (i : Fin a) (j : Fin b) :
    View.ld x (Rect.unit (s := ⟨3, ![4, a, b]⟩) ![k.val, 0, 0] ![1, a, b] h) (ix3 0 i j) = x (ix3 k i j) := by
  refine congrArg x (funext fun d => Fin.ext ?_)
  fin_cases d <;> simp [Rect.unit, Rect.emb]

/-- The graph `b` of the launched arrays. -/
abbrev graphAt (c : Dev nD) (b : Fin 16) : Net.Graph :=
  Net.graphOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b

/-- The weights of the launched arrays. -/
abbrev weightsAt (c : Dev nD) : Net.Weights :=
  Net.weightsOf (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg13))
    (m ((c : Thread nD τ).loc main_arg15)) (m ((c : Thread nD τ).loc main_arg16)) (m ((c : Thread nD τ).loc main_arg17))
    (m ((c : Thread nD τ).loc main_arg18))

/-- The slabs the body loads at row `k` of point `t`'s blocks are graph `4 * t + k` of the launched arrays. -/
theorem graph_eq (c : Dev nD) (t : Fin cfg0.N) (k : Fin 4) (h0 h1 h2 h3 h4 h5 h6) :
    Block.Slabs.graph ⟨View.ld (iblk m c 0 t) (Rect.unit (s := S4x256x128) ![k.val, 0, 0] S1x256x128.size h0),
      View.ld (iblk m c 1 t) (Rect.unit (s := S4x16x512) ![k.val, 0, 0] S1x16x512.size h1),
      View.ld (iblk m c 2 t) (Rect.unit (s := S4x256x256) ![k.val, 0, 0] S1x256x256.size h2),
      View.ld (iblk m c 3 t) (Rect.unit (s := S4x512x512) ![k.val, 0, 0] S1x512x512.size h3),
      View.ld (iblk m c 4 t) (Rect.unit (s := S4x256x256) ![k.val, 0, 0] S1x256x256.size h4),
      View.ld (iblk m c 5 t) (Rect.unit (s := S4x512x512) ![k.val, 0, 0] S1x512x512.size h5),
      View.ld (iblk m c 6 t) (Rect.unit (s := S4x256x512) ![k.val, 0, 0] S1x256x512.size h6)⟩
      = graphAt m c (row t k) := by
  unfold Block.Slabs.graph graphAt Net.graphOf
  rw [Net.Graph.mk.injEq]
  exact ⟨funext₂ fun i j => (ld_row (iblk m c 0 t) k h0 i j).trans (node_at m c t k i j),
    funext₂ fun e l => (ld_row (iblk m c 1 t) k h1 l e).trans (edge_at m c t k l e),
    funext₂ fun i j => (ld_row (iblk m c 2 t) k h2 i j).trans (nodeAdj_at m c t k i j),
    funext₂ fun i j => (ld_row (iblk m c 3 t) k h3 i j).trans (edgeAdj_at m c t k i j),
    funext₂ fun i j => (ld_row (iblk m c 4 t) k h4 i j).trans (nodeDeg_at m c t k i j),
    funext₂ fun i j => (ld_row (iblk m c 5 t) k h5 i j).trans (edgeDeg_at m c t k i j),
    funext₂ fun i j => (ld_row (iblk m c 6 t) k h6 i j).trans (inc_at m c t k i j)⟩

/-- The weight windows stay at their whole arrays at every grid point. -/
theorem idxW : ∀ t : Fin cfg0.N, win0_7.index t = ![0, 0] ∧ win0_8.index t = ![0, 0] ∧ win0_9.index t = ![0, 0]
    ∧ win0_10.index t = ![0, 0] ∧ win0_11.index t = ![0, 0] ∧ win0_12.index t = ![0, 0] ∧ win0_14.index t = ![0, 0]
    ∧ win0_15.index t = ![0] ∧ win0_16.index t = ![0, 0] ∧ win0_17.index t = ![0] :=
  (by decide +kernel : ∀ t : Fin grid0.N, _)

set_option maxHeartbeats 1000000 in
/-- The weight blocks the body loads are the launched weights. -/
theorem weights_eq (c : Dev nD) (t : Fin cfg0.N) :
    Block.Params.weights ⟨View.ld (iblk m c 7 t) r0_21, View.ld (iblk m c 8 t) r0_23, View.ld (iblk m c 9 t) r0_20,
      View.ld (iblk m c 10 t) r0_22, View.ld (iblk m c 11 t) r0_21, View.ld (iblk m c 12 t) r0_20, View.ld (iblk m c 14 t) r0_21,
      View.ld (iblk m c 15 t) r0_24, View.ld (iblk m c 16 t) r0_22, View.ld (iblk m c 17 t) r0_25⟩ = weightsAt m c := by
  unfold Block.Params.weights weightsAt Net.weightsOf
  rw [Net.Weights.mk.injEq]
  have e1 (k : Fin 16) : V m c main_v1 (ix2 0 k) = m ((c : Thread nD τ).loc main_arg9) (ix2 k 0) := by
    rw [V_pe1]; pointwise
  have e2 (k : Fin 128) : V m c main_v2 (ix2 0 k) = m ((c : Thread nD τ).loc main_arg10) (ix2 k 0) := by
    rw [V_pv1]; pointwise
  have e3 (k : Fin 16) : V m c main_v3 (ix2 0 k) = m ((c : Thread nD τ).loc main_arg13) (ix2 k 0) := by
    rw [V_pe2]; pointwise
  have e5 (k : Fin 128) : V m c main_v5 (ix2 0 k) = m ((c : Thread nD τ).loc main_arg17) (ix2 k 0) := by
    rw [V_wv2]; pointwise
  refine ⟨funext₂ fun i j => ?_, funext₂ fun i j => ?_, funext fun i => (Eq.trans ?_ (e1 i)), funext fun i => (Eq.trans ?_ (e2 i)),
    funext₂ fun i j => ?_, funext fun i => (Eq.trans ?_ (e3 i)), funext₂ fun i j => ?_, funext fun i => ?_,
    funext fun i => (Eq.trans ?_ (e5 i)), ?_⟩
  all_goals (pointwise; blk_ext [iblk, V, idxW t])

/-- What the region leaves in its result array: at graph `b` the network's value on it. -/
def result3 (c : Dev nD) : FVec Ideal S16x1x1 .f32 := fun i => (graphAt m c (i 0)).value (weightsAt m c)

/-- A piece of the block: row `k` of point `t`'s block of `result3`, whatever the index in the piece. -/
theorem piece (c : Dev nD) (t : Fin cfg0.N) (k : Fin 4) (s : Block.Slabs Ideal) (p : Block.Params Ideal)
    (hs : s.graph = graphAt m c (row t k)) (hp : p.weights = weightsAt m c) (x : S1x1x1.Idx) (i : S16x1x1.Idx)
    (hi : i 0 = row t k) : Block.value s p x = result3 m c i := by
  have hx : x = ix3 0 0 0 := by
    funext d
    fin_cases d <;> exact Subsingleton.elim (α := Fin 1) _ _
  rw [hx, Block.value_apply, hs, hp, result3, hi]

/-- POINT: what the body stores at index `y` of point `t`'s block. -/
theorem point (c : Dev nD) (t : Fin cfg0.N) (y : S4x1x1.Idx) (i : S16x1x1.Idx) (h : (i 0 : ℕ) = 4 * t.val + (y 0 : ℕ)) :
    out0_18 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (iblk m c 17 t) y = result3 m c i := by
  rw [out_eq]
  canon_tiles x hx
  · exact piece m c t 3 _ _ (graph_eq m c t 3 ..) (weights_eq m c t) x i (Fin.ext (by simp; omega))
  · exact piece m c t 2 _ _ (graph_eq m c t 2 ..) (weights_eq m c t) x i (Fin.ext (by simp; omega))
  · exact piece m c t 1 _ _ (graph_eq m c t 1 ..) (weights_eq m c t) x i (Fin.ext (by simp; omega))
  · exact piece m c t 0 _ _ (graph_eq m c t 0 ..) (weights_eq m c t) x i (Fin.ext (by simp; omega))

/-- The region's result array after the run. -/
theorem final (c : Dev nD) : (dats m 0 c).arrAt 18 (cfgs 0).N = result3 m c := by
  refine (dats m 0 c).arrAt_eq_of_covers 18 _ (by decide +kernel) fun t _ y => ?_
  blk_simp
  rw [after0_18]
  exact point m c t y _ (by blk_simp [idx t]; omega)

/-- What the program returns: at row `b` the network's value on graph `b`. -/
def result (c : Dev nD) : FVec Ideal S16x1 .f32 := fun i => (graphAt m c (i 0)).value (weightsAt m c)

/-- The result of the reshape that follows the region: the region's array with its last axis dropped. -/
theorem tail (c : Dev nD) : Pipeline.afterTail₀ cfgs (dats m) 0 (V0 m) [hostOps1] c main_v7 = result m c := by
  have harr : Pipeline.withArrays (cfgs 0).spec c (V0 m c) (fun w => (dats m 0 c).arrAt w (cfgs 0).N)
      (Proc.devRef .tc main_v6) = result3 m c :=
    (Pipeline.withArrays_arr (cfgs 0).spec launch0.win.arr_inj c (V0 m c) _ 18).trans (final m c)
  unfold Pipeline.afterTail₀
  show StableHlo.after (hostOps1 (F := Ideal)) _ (Proc.devRef .tc main_v7) = _
  after_results_simp
  rw [harr]
  funext i
  show shapeCast S16x1 (result3 m c) shapeCasts_S16x1x1_S16x1 i = _
  pointwise [result3, result]

/-- THE RUN, read: the result at the network's value of every graph, the arguments unchanged. -/
theorem run (ρ : Dev nD → PrngReg) :
    θ_run defs (onTc (τ := τ) (main (F := Ideal))) ⟨m, fun _ => 0, ρ⟩ fun r =>
      (∀ c : Dev nD, r.2.mem ((c.tc : Thread nD τ).loc main_v7) = result m c) :=
  (θ_run defs _ _).mono (fun _ h c =>
    ((h c).2 main_v7 (Pipeline.mem_restRefs_of main_v7 (by decide) (by decide))).trans (tail m c)) (run_main m ρ)

end Cert.KernelIdeal.NetValue

end
-- ==== Proof.HostNet.lean ====
/-
  The reference's result, read: for every graph of the batch it is the network's value on it. The second layer is the
  first layer's operations again, on the first layer's results, so each layer is read once.
-/
module

public import proofs.«01_k».proof.Defs
public import proofs.«01_k».proof.Proof.Net
public import proofs.«01_k».proof.Proof.Gen.ReferenceIdeal.Run
public import proofs.«01_k».proof.Proof.Gen.ReferenceIdeal.Read
public import Idealize.ShloMosaic.Lib.Pointwise

@[expose] public section

set_option maxRecDepth 16384

noncomputable section

open Idealize.ShloMosaic Idealize.ShloMosaic.TcCoe Idealize.SL.Sem

namespace Cert.ReferenceIdeal.HostNet

open Cert.ReferenceIdeal Cert.ReferenceIdeal.Read

variable (x0 : FVec Ideal S16x256x128 .f32) (x1 : FVec Ideal S16x512x16 .f32) (x2 x4 : FVec Ideal S16x256x256 .f32)
  (x3 x5 : FVec Ideal S16x512x512 .f32) (x6 : FVec Ideal S16x256x512 .f32) (x7 x11 x15 : FVec Ideal S128x128 .f32)
  (x8 : FVec Ideal S16x16 .f32) (x9 x13 : FVec Ideal S16x1 .f32) (x10 x17 : FVec Ideal S128x1 .f32)
  (x16 : FVec Ideal S128 .f32) (x18 : FVec Ideal S1 .f32)

/-- The edge scores, as the reference spreads them over the rows of the incidence matrix. -/
theorem edgeScore_apply (b : Fin 16) (i : Fin 256) (e : Fin 512) :
    val_main_v4 (F := Ideal) x1 x9 (ix3 b i e) = Net.score (fun e k => x1 (ix3 b e k)) (fun k => x9 (ix2 k 0)) e := by
  pointwise [val_main_v4, val_main_v3, val_main_v2, val_main_v1, Net.score]

/-- The matrix that mixes nodes, of graph `b`. -/
theorem nodeMix_apply (b : Fin 16) (i j : Fin 256) :
    val_main_v7 (F := Ideal) x1 x2 x6 x9 (ix3 b i j)
      = Net.nodeMix (fun i e => x6 (ix3 b i e)) (Net.score (fun e k => x1 (ix3 b e k)) (fun k => x9 (ix2 k 0)))
          (fun i j => x2 (ix3 b i j)) i j := by
  pointwise [val_main_v7, val_main_v6, val_main_v5, val_main_v0, edgeScore_apply, Net.nodeMix]

/-- The node features after one layer, of graph `b`. -/
theorem nodeStep_apply (b : Fin 16) (i : Fin 256) (j : Fin 128) :
    val_main_v12 (F := Ideal) x0 x1 x2 x4 x6 x7 x9 (ix3 b i j)
      = Net.propagate (fun i j => x4 (ix3 b i j))
          (Net.nodeMix (fun i e => x6 (ix3 b i e)) (Net.score (fun e k => x1 (ix3 b e k)) (fun k => x9 (ix2 k 0)))
            (fun i j => x2 (ix3 b i j)))
          (fun i k => x0 (ix3 b i k)) (fun k l => x7 (ix2 k l)) i j := by
  pointwise [val_main_v12, val_main_v11, val_main_v10, val_main_v9, val_main_v8, val_main_call0_v0, val_main_call0_cst,
    nodeMix_apply, Net.propagate, Net.mm]

/-- The node scores, as the reference spreads them over the rows of the transposed incidence matrix. -/
theorem nodeScore_apply (b : Fin 16) (e : Fin 512) (i : Fin 256) :
    val_main_v16 (F := Ideal) x0 x10 (ix3 b e i) = Net.score (fun i k => x0 (ix3 b i k)) (fun k => x10 (ix2 k 0)) i := by
  pointwise [val_main_v16, val_main_v15, val_main_v14, val_main_v13, Net.score]

/-- The matrix that mixes edges, of graph `b`. -/
theorem edgeMix_apply (b : Fin 16) (e f : Fin 512) :
    val_main_v19 (F := Ideal) x0 x3 x6 x10 (ix3 b e f)
      = Net.edgeMix (fun i e => x6 (ix3 b i e)) (Net.score (fun i k => x0 (ix3 b i k)) (fun k => x10 (ix2 k 0)))
          (fun e f => x3 (ix3 b e f)) e f := by
  pointwise [val_main_v19, val_main_v18, val_main_v17, val_main_v0, nodeScore_apply, Net.edgeMix]

/-- The edge features after one layer, of graph `b`. -/
theorem edgeStep_apply (b : Fin 16) (e : Fin 512) (k : Fin 16) :
    val_main_v24 (F := Ideal) x0 x1 x3 x5 x6 x8 x10 (ix3 b e k)
      = Net.propagate (fun e f => x5 (ix3 b e f))
          (Net.edgeMix (fun i e => x6 (ix3 b i e)) (Net.score (fun i k => x0 (ix3 b i k)) (fun k => x10 (ix2 k 0)))
            (fun e f => x3 (ix3 b e f)))
          (fun e k => x1 (ix3 b e k)) (fun k l => x8 (ix2 k l)) e k := by
  pointwise [val_main_v24, val_main_v23, val_main_v22, val_main_v21, val_main_v20, val_main_call1_v0, val_main_call1_cst,
    edgeMix_apply, Net.propagate, Net.mm]

/-- The second layer's node update is the first layer's, on the first layer's node and edge features. -/
theorem second_layer :
    val_main_v37 (F := Ideal) x0 x1 x2 x3 x4 x5 x6 x7 x8 x9 x10 x11 x13
      = val_main_v12 (F := Ideal) (val_main_v12 (F := Ideal) x0 x1 x2 x4 x6 x7 x9)
          (val_main_v24 (F := Ideal) x0 x1 x3 x5 x6 x8 x10) x2 x4 x6 x11 x13 := rfl

/-- The node features after both layers, of graph `b`. -/
theorem node2_apply (b : Fin 16) (i : Fin 256) (j : Fin 128) :
    val_main_v37 (F := Ideal) x0 x1 x2 x3 x4 x5 x6 x7 x8 x9 x10 x11 x13 (ix3 b i j)
      = (Net.graphOf x0 x1 x2 x3 x4 x5 x6 b).node2 (Net.weightsOf x7 x8 x9 x10 x11 x13 x15 x16 x17 x18) i j := by
  rw [second_layer, nodeStep_apply]
  simp only [nodeStep_apply, edgeStep_apply]
  rfl

/-- The pooled features of graph `b`. -/
theorem pooled_apply (b : Fin 16) (j : Fin 128) :
    val_main_v57 (F := Ideal) x0 x1 x2 x3 x4 x5 x6 x7 x8 x9 x10 x11 x13 x15 x16 (ix2 b j)
      = Net.pooled (fun i k => val_main_v37 (F := Ideal) x0 x1 x2 x3 x4 x5 x6 x7 x8 x9 x10 x11 x13 (ix3 b i k))
          (fun k l => x15 (ix2 k l)) (fun k => x16 (ix1 k)) j := by
  pointwise [val_main_v57, val_main_v56, val_main_v55, val_main_v54, val_main_v53, val_main_v52, val_main_v51,
    val_main_v50, val_main_cst, val_main_cst_0, val_main_call4_v0, val_main_call4_cst, Net.pooled, Net.mm]

/-- The reference's result for graph `b` is the network's value on it. -/
theorem value_apply (b : Fin 16) :
    val_main_v61 (F := Ideal) x0 x1 x2 x3 x4 x5 x6 x7 x8 x9 x10 x11 x13 x15 x16 x17 x18 (ix2 b 0)
      = (Net.graphOf x0 x1 x2 x3 x4 x5 x6 b).value (Net.weightsOf x7 x8 x9 x10 x11 x13 x15 x16 x17 x18) := by
  pointwise [val_main_v61, val_main_v60, val_main_v59, val_main_v58, pooled_apply,
    node2_apply x0 x1 x2 x4 x3 x5 x6 x7 x11 x15 x8 x9 x13 x10 x17 x16 x18, Net.Graph.value]
  rfl

/-- The reference's result array, whole. -/
theorem value_eq :
    val_main_v61 (F := Ideal) x0 x1 x2 x3 x4 x5 x6 x7 x8 x9 x10 x11 x13 x15 x16 x17 x18
      = fun i : S16x1.Idx => (Net.graphOf x0 x1 x2 x3 x4 x5 x6 (i 0)).value
          (Net.weightsOf x7 x8 x9 x10 x11 x13 x15 x16 x17 x18) := by
  funext i
  obtain ⟨b, c, rfl⟩ : ∃ (b : Fin 16) (c : Fin 1), i = ix2 b c := ⟨i 0, i 1, eq_ix2 i⟩
  obtain rfl : c = 0 := Subsingleton.elim _ _
  exact value_apply x0 x1 x2 x4 x3 x5 x6 x7 x11 x15 x8 x9 x13 x10 x17 x16 x18 b

end Cert.ReferenceIdeal.HostNet

end
-- ==== Proof.lean ====
/-
  The five claims about the kernel, its ideal program and the reference (Defs.lean): three frames, the kernel's ideal
  program, and the equality of the two results over the extended reals.
-/
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelNet
public import proofs.«01_k».proof.Proof.HostNet
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference run's arguments end unchanged and its counters end at zero. -/
theorem reference_frame : Cert.quiescent_ReferenceIdeal :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- Kernel and reference leave the same array: graph by graph the network's value on it. -/
theorem same_result : Cert.algebraic_KernelIdeal_ReferenceIdeal := by
  intro m g m' g' _ agree
  refine ⟨Cert.KernelIdeal.NetValue.result m, ?_, ?_⟩
  · exact (θ_run Cert.KernelIdeal.defs _ _).mono (fun r h c => ⟨h.1 c, h.2 c⟩)
      (θ_run_and (Cert.KernelIdeal.NetValue.run m g) (Cert.KernelIdeal.Gen.unchanged m g))
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9, h10, h11, _, h13, _, h15, h16, h17, h18⟩ := agree c
    rw [Cert.ReferenceIdeal.Read.val_main_v61_eq, h0, h1, h2, h3, h4, h5, h6, h7, h8, h9, h10, h11, h13, h15, h16, h17,
      h18]
    exact Cert.ReferenceIdeal.HostNet.value_eq ..

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial,
  same_result⟩

end Cert.Proof

end
